-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_merge_in_range [hPre_merge_in_range : Cert.Pre_merge_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_merge_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_merge_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_merge_in_range [hPre_merge_in_range : Cert.Pre_merge_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_merge_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_merge_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_merge_in_range [hKernelIdeal : Cert.KernelIdeal.Facts] [hPre_merge_in_range : Cert.Pre_merge_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_merge_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_merge_in_range [hReferenceIdeal : Cert.ReferenceIdeal.Facts] [hPre_merge_in_range : Cert.Pre_merge_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_merge_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_merge_in_range [hKernelIdeal : Cert.KernelIdeal.Facts] [hReferenceIdeal : Cert.ReferenceIdeal.Facts] [hPre_merge_in_range : Cert.Pre_merge_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_merge_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_merge_in_range : Cert.Pre_merge_in_range.Facts),
    quiescent_Kernel (hKernel := hKernel)
    ∧ quiescent_KernelIdeal (hKernelIdeal := hKernelIdeal)
    ∧ quiescent_KernelIdeal_pre_merge_in_range (hKernelIdeal := hKernelIdeal) (hPre_merge_in_range := hPre_merge_in_range)
    ∧ quiescent_ReferenceIdeal (hReferenceIdeal := hReferenceIdeal)
    ∧ quiescent_ReferenceIdeal_pre_merge_in_range (hReferenceIdeal := hReferenceIdeal) (hPre_merge_in_range := hPre_merge_in_range)
    ∧ preserves_Kernel_KernelIdeal
    ∧ algebraic_KernelIdeal_ReferenceIdeal_pre_merge_in_range (hKernelIdeal := hKernelIdeal) (hReferenceIdeal := hReferenceIdeal) (hPre_merge_in_range := hPre_merge_in_range)
-- ==== Pre_merge_in_range.lean ====
abbrev S100000x3 : Shape := ⟨2, ![100000, 3]⟩
abbrev S6400000 : Shape := ⟨1, ![6400000]⟩
abbrev S100000 : Shape := ⟨1, ![100000]⟩
abbrev S_ : Shape := ⟨0, ![]⟩

class Facts : Prop where
  bcast_S_S6400000 : S_.BroadcastsInDim S6400000 (![] : Fin 0 → Fin S6400000.rank)
  bcast_S_S100000 : S_.BroadcastsInDim S100000 (![] : Fin 0 → Fin S100000.rank)

variable [Facts]

def fn {F : FTy → Type} [FloatOps F] (main_arg0 : FVec F S100000x3 .f32) (main_arg1 : FVec F S6400000 .f32) (main_arg2 : FVec F S100000x3 .f32) (main_arg3 : FVec F S6400000 .f32) (main_arg4 : IVec S6400000 32) (main_arg5 : IVec S100000 32) : IVec S6400000 1 × IVec S100000 1 :=
  let main_c : IVec S_ 32 := constantI S_ 32 0#32
  let main_v0 : IVec S6400000 32 := broadcastInDim S6400000 ![] bcast_S_S6400000 main_c
  let main_v1 : IVec S6400000 1 := cmpi .sge main_arg4 main_v0
  let main_c_0 : IVec S_ 32 := constantI S_ 32 512#32
  let main_v2 : IVec S6400000 32 := broadcastInDim S6400000 ![] bcast_S_S6400000 main_c_0
  let main_v3 : IVec S6400000 1 := cmpi .slt main_arg4 main_v2
  let main_v4 : IVec S6400000 1 := andi main_v1 main_v3
  let main_c_1 : IVec S_ 32 := constantI S_ 32 0#32
  let main_v5 : IVec S100000 32 := broadcastInDim S100000 ![] bcast_S_S100000 main_c_1
  let main_v6 : IVec S100000 1 := cmpi .sge main_arg5 main_v5
  let main_c_2 : IVec S_ 32 := constantI S_ 32 512#32
  let main_v7 : IVec S100000 32 := broadcastInDim S100000 ![] bcast_S_S100000 main_c_2
  let main_v8 : IVec S100000 1 := cmpi .slt main_arg5 main_v7
  let main_v9 : IVec S100000 1 := andi main_v6 main_v8
  (main_v4, main_v9)
-- ==== Kernel.lean ====
abbrev S100000x3 : Shape := ⟨2, ![100000, 3]⟩
abbrev S6400000 : Shape := ⟨1, ![6400000]⟩
abbrev S100000 : Shape := ⟨1, ![100000]⟩
abbrev S3x100000 : Shape := ⟨2, ![3, 100000]⟩
abbrev S50000x128 : Shape := ⟨2, ![50000, 128]⟩
abbrev S1x1 : Shape := ⟨2, ![1, 1]⟩
abbrev S2x12000x128 : Shape := ⟨3, ![2, 12000, 128]⟩
abbrev S2 : Shape := ⟨1, ![2]⟩
abbrev S1 : Shape := ⟨1, ![1]⟩
abbrev S_ : Shape := ⟨0, ![]⟩
abbrev S1x12000x128 : Shape := ⟨3, ![1, 12000, 128]⟩
abbrev S12000x128 : Shape := ⟨2, ![12000, 128]⟩
abbrev S1x3x100000 : Shape := ⟨3, ![1, 3, 100000]⟩
abbrev S1x1x1 : Shape := ⟨3, ![1, 1, 1]⟩
abbrev S1x2000x128 : Shape := ⟨3, ![1, 2000, 128]⟩
abbrev S2000x128 : Shape := ⟨2, ![2000, 128]⟩

abbrev nBuf : Space → Nat
  | .hbm => 12
  | .vmem => 4
  | .smem => 1
  | _ => 0

abbrev bufTy : (tb : Table) → Fin (tcTables nBuf tb) → BufTy
  | .hbm, ⟨0, _⟩ => ⟨S100000x3, .f32⟩
  | .hbm, ⟨1, _⟩ => ⟨S6400000, .f32⟩
  | .hbm, ⟨2, _⟩ => ⟨S100000x3, .f32⟩
  | .hbm, ⟨3, _⟩ => ⟨S6400000, .f32⟩
  | .hbm, ⟨4, _⟩ => ⟨S6400000, .i32⟩
  | .hbm, ⟨5, _⟩ => ⟨S100000, .i32⟩
  | .hbm, ⟨6, _⟩ => ⟨S3x100000, .f32⟩
  | .hbm, ⟨7, _⟩ => ⟨S3x100000, .f32⟩
  | .hbm, ⟨8, _⟩ => ⟨S50000x128, .f32⟩
  | .hbm, ⟨9, _⟩ => ⟨S50000x128, .f32⟩
  | .hbm, ⟨10, _⟩ => ⟨S1x1, .f32⟩
  | .hbm, ⟨11, _⟩ => ⟨S_, .f32⟩
  | .local _ .vmem, ⟨0, _⟩ => ⟨S3x100000, .f32⟩
  | .local _ .vmem, ⟨1, _⟩ => ⟨S3x100000, .f32⟩
  | .local _ .vmem, ⟨2, _⟩ => ⟨S2x12000x128, .f32⟩
  | .local _ .vmem, ⟨3, _⟩ => ⟨S2x12000x128, .f32⟩
  | .local _ .smem, ⟨0, _⟩ => ⟨S1x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S100000x3 : Shape := ⟨2, ![100000, 3]⟩
abbrev S6400000 : Shape := ⟨1, ![6400000]⟩
abbrev S100000 : Shape := ⟨1, ![100000]⟩
abbrev S_ : Shape := ⟨0, ![]⟩
abbrev S512 : Shape := ⟨1, ![512]⟩
abbrev S100000x1 : Shape := ⟨2, ![100000, 1]⟩
abbrev S6400000x1 : Shape := ⟨2, ![6400000, 1]⟩

abbrev nBuf : Space → Nat
  | .hbm => 33
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S6400000, .f32⟩
  | .hbm, ⟨2, _⟩ => ⟨S100000x3, .f32⟩
  | .hbm, ⟨3, _⟩ => ⟨S6400000, .f32⟩
  | .hbm, ⟨4, _⟩ => ⟨S6400000, .i32⟩
  | .hbm, ⟨5, _⟩ => ⟨S100000, .i32⟩
  | .hbm, ⟨6, _⟩ => ⟨S100000x3, .f32⟩
  | .hbm, ⟨7, _⟩ => ⟨S100000x3, .f32⟩
  | .hbm, ⟨8, _⟩ => ⟨S_, .f32⟩
  | .hbm, ⟨9, _⟩ => ⟨S100000, .f32⟩
  | .hbm, ⟨10, _⟩ => ⟨S_, .f32⟩
  | .hbm, ⟨11, _⟩ => ⟨S512, .f32⟩
  | .hbm, ⟨12, _⟩ => ⟨S100000x1, .i32⟩
  | .hbm, ⟨13, _⟩ => ⟨S512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S6400000, .f32⟩
  | .hbm, ⟨19, _⟩ => ⟨S6400000, .f32⟩
  | .hbm, ⟨20, _⟩ => ⟨S_, .f32⟩
  | .hbm, ⟨21, _⟩ => ⟨S512, .f32⟩
  | .hbm, ⟨22, _⟩ => ⟨S6400000x1, .i32⟩
  | .hbm, ⟨23, _⟩ => ⟨S512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_cst_7 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Proof.Ideal.Setup.lean ====
/- The launch set-up of the idealized kernel: the lines of @main around the one region, the body's operands, its six
   copy semaphores, and the four arrays it copies out of by itself. -/
module

public import proofs.«01_k».proof.Proof.Gen.KernelIdeal.Frame
public import proofs.«01_k».proof.Proof.Gen.KernelIdeal.Skeleton
public import Idealize.ShloMosaic.Lib.Pipeline.FrameSuffixR

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program is: the host lines before the region, the region, then the host line after it. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The staging memref of the one output at point `t`. -/
abbrev outStage (t : Fin cfg0.N) : Memref sig .tc .smem S1x1 .f32 := win0_0.stage (cfg0.slots t 0)

/-- The four scratch arrays: the two node arrays' copies and the two edge arrays' double buffers. -/
abbrev predX : Memref sig .tc .vmem S3x100000 .f32 := Memref.whole cc0_scratch0
abbrev trueX : Memref sig .tc .vmem S3x100000 .f32 := Memref.whole cc0_scratch1
abbrev predQ : Memref sig .tc .vmem S2x12000x128 .f32 := Memref.whole cc0_scratch2
abbrev trueQ : Memref sig .tc .vmem S2x12000x128 .f32 := Memref.whole cc0_scratch3

/-- The four operands left in place, which the body copies out of. -/
abbrev srcPX : Memref sig .tc .hbm S3x100000 .f32 := Memref.whole main_v0
abbrev srcTX : Memref sig .tc .hbm S3x100000 .f32 := Memref.whole main_v1
abbrev srcPQ : Memref sig .tc .hbm S50000x128 .f32 := Memref.whole main_v2
abbrev srcTQ : Memref sig .tc .hbm S50000x128 .f32 := Memref.whole main_v3

/-- The contents of `M`'s buffer on core `c`. -/
abbrev Held (c : Dev nD) {sp : Space} {S : Shape} {e : EltTy} (M : Memref sig .tc sp S e) : Type := Buf (Elt F) (M.view.loc (c : Thread nD τ))
/-- `M`'s buffer on core `c` held whole at `f`. -/
abbrev held (c : Dev nD) {sp : Space} {S : Shape} {e : EltTy} (M : Memref sig .tc sp S e) (f : Held (F := F) c M) : sProp 𝕄 :=
  M.view.loc (c : Thread nD τ) ↦{fullShare} f

/-- The body's own six copy semaphores. -/
abbrev copySems : Fin 6 → SemLoc sig := fun j => (![SemLoc.dma 1, SemLoc.dma 2, SemLoc.dma 3, SemLoc.dma 4, SemLoc.dma 5, SemLoc.dma 6] : Fin 6 → SemLoc sig) j

/-- None of the six is a window's. -/
theorem copySems_own : Pipeline.OwnSemFacts spec0 copySems := by decide

/-- The six at zero, one by one. -/
theorem copySems_zero (c : Dev nD) :
    (Pipeline.ownSems0 (Ix := Unit) (Name := ℕ) (U := Pipeline.UD sig nD τ) (Lvl := ℕ) (Val := Elt F) (τ := τ) copySems c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0) := by
  rw [Pipeline.ownSems0_eq_of_list c copySems [0, 1, 2, 3, 4, 5] (by decide) (by decide)]; rfl

/-- The four operands the body copies out of. -/
def sources : Finset (Ref sig .tc) := {main_v0, main_v1, main_v2, main_v3}

/-- They are outside the pipeline's own arrays. -/
theorem sources_rest : sources ⊆ Pipeline.restRefs sig spec0 := by decide

/-- The host line after the region touches none of them. -/
theorem suffix_avoids : ∀ ops ∈ ([hostOps1] : List (List (HloOp τ sig (Elt F)))), ∀ op ∈ ops,
    op.bufs ⊆ Pipeline.tailRefsBut sig Pipeline.Prefetch.none spec0 sources := by
  intro ops hops op hop
  simp only [List.mem_cons, List.mem_nil_iff, or_false] at hops
  rcases hops with rfl
  · refine Pipeline.sub_tailRefsBut Pipeline.Prefetch.none spec0 sources op ((List.forall_iff_forall_mem.mp hostOps1_sub) op hop) (fun j => j.elim0) ?_
    simp only [hostOps1, List.mem_cons, List.mem_nil_iff, or_false] at hop
    rcases hop with rfl
    intro b hb; simp only [sources, Finset.mem_insert, Finset.mem_singleton] at hb
    rcases hb with rfl | rfl | rfl | rfl <;>
      simp only [StableHlo.nullary_bufs, StableHlo.unary_bufs, StableHlo.reshape_bufs, Finset.mem_insert, Finset.mem_singleton, not_or] <;> and_intros <;> exact StableHlo.devRef_ne_of_ne (by decide)

/-- Their ownership at the contents the region finds, one by one. -/
theorem sources_held (c : Dev nD) :
    (bigSep sources (fun b => ((c : Thread nD τ).loc b) ↦{fullShare} V m c b) : sProp 𝕄) = iprop(held c srcPX (V m c main_v0) ∗ held c srcTX (V m c main_v1) ∗ held c srcPQ (V m c main_v2) ∗ held c srcTQ (V m c main_v3)) := by
  rw [BI.bigSep_eq_bigSepL_of_eq [main_v0, main_v1, main_v2, main_v3] (by decide) (by decide)]; rfl

/-- What the body is handed beside its window: the scratch at some contents, the generator register, the six semaphores
    at zero, the four operands at the contents the region finds. -/
theorem invariant_eq (c : Dev nD) :
    (Pipeline.ΦD copySems spec0 sources (V m) c : sProp 𝕄)
      = iprop(iprop((∃ d, owns (c : Thread nD τ) predX fullShare d) ∗ (∃ d, owns (c : Thread nD τ) trueX fullShare d) ∗ (∃ d, owns (c : Thread nD τ) predQ fullShare d) ∗ (∃ d, owns (c : Thread nD τ) trueQ fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0) ∗ iprop(held c srcPX (V m c main_v0) ∗ held c srcTX (V m c main_v1) ∗ held c srcPQ (V m c main_v2) ∗ held c srcTQ (V m c main_v3))) := by
  rw [Pipeline.ΦD_eq, scopedRest0_eq, copySems_zero, sources_held]; simp only [predX, trueX, predQ, trueQ, owns_whole]; try rfl

end Cert.KernelIdeal.Loss

end
-- ==== Proof.Ideal.Slots.lean ====
/- What a load of one slot of a double buffer reads after copies into its slots. -/
module

public import proofs.«01_k».proof.Proof.Ideal.Setup
public import Idealize.ShloMosaic.Lib.Pipeline.Value
public import proofs.«01_k».proof.Proof.Gen.KernelIdeal.Skeleton
public import Idealize.ShloMosaic.Lib.Pipeline.FrameSuffixR

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Slots

variable {sg : RefSig} {κ : Kind} {sp : Space} {s s' : Shape} {e : EltTy} {Val : EltTy → Type}

/-- A load of the slot a copy has just filled reads what was copied, the slot's leading unit axis restored. -/
theorem load_filled (M : Memref sg κ sp s e) (r : Rect s) (hr : ∀ a, r.stride a = 1) (hq : r.shape.Squeezes s')
    (hc : r.shape.ShapeCasts s') (f : M.view.ty.Contents Val) (w : s'.Idx → Val e) :
    shapeCast s' (M.view.readAt Val r.toLoadRect (((M.slice r hr).squeeze s' hq).view.write Val f w Finset.univ)) hc = w :=
  (Memref.read_squeeze_slice M r hr hq hc _).symm.trans (View.read_write_univ _ _)

/-- A load of one slot does not see a copy into a slot apart from it. -/
theorem load_other (M : Memref sg κ sp s e) (r r' : Rect s) (hr : ∀ a, r'.stride a = 1) (hq : r'.shape.Squeezes s')
    (hd : Disjoint r.set r'.set) (f : M.view.ty.Contents Val) (w : s'.Idx → Val e) :
    M.view.readAt Val r.toLoadRect (((M.slice r' hr).squeeze s' hq).view.write Val f w Finset.univ)
      = M.view.readAt Val r.toLoadRect f := by
  funext x
  refine View.read_congr_at _ (View.write_of_not_mem _ _ _ ?_)
  intro hm
  rw [View.setOn_univ, Memref.set_view_squeeze] at hm
  have hm' : M.view.emb (r.emb x) ∈ (M.view.slice r').set := hm
  rw [View.set_slice] at hm'
  obtain ⟨y, hy, he⟩ := Finset.mem_map.mp hm'
  rw [M.view.emb.injective he] at hy
  exact Finset.disjoint_left.mp hd (r.toLoadRect.idx_mem x) hy

end Slots

/-- The first slot's rows lie apart from the second slot's. -/
theorem slot0_slot1 : Disjoint
    (Rect.unit (s := S2x12000x128) ![0, 0, 0] S1x12000x128.size inb_S2x12000x128_S1x12000x128_0_0_0).set
    (Rect.unit (s := S2x12000x128) ![1, 0, 0] S1x12000x128.size inb_S2x12000x128_S1x12000x128_1_0_0).set := by
  rw [Finset.disjoint_left]
  intro i h h'
  rw [Rect.mem_set_unit] at h h'
  have h0 := (h 0).2
  have h1 := (h' 0).1
  simp at h0 h1
  omega

/-- The second slot's rows lie apart from the first slot's leading 2000. -/
theorem slot1_head : Disjoint
    (Rect.unit (s := S2x12000x128) ![1, 0, 0] S1x12000x128.size inb_S2x12000x128_S1x12000x128_1_0_0).set
    (Rect.unit (s := S2x12000x128) ![0, 0, 0] S1x2000x128.size inb_S2x12000x128_S1x2000x128_0_0_0).set := by
  rw [Finset.disjoint_left]
  intro i h h'
  rw [Rect.mem_set_unit] at h h'
  have h0 := (h 0).1
  have h1 := (h' 0).2
  simp at h0 h1
  omega

end Cert.KernelIdeal.Loss

end
-- ==== Proof.Ideal.BodyValue.lean ====
/- What the body computes, as a function of the four arrays it copies in: the scaled sum of squared differences over the
   node arrays, then one scaled sum per stretch of rows of the edge arrays, added in turn. -/
module

public import proofs.«01_k».proof.Proof.Ideal.Setup
public import proofs.«01_k».proof.Proof.Gen.KernelIdeal.Skeleton
public import Idealize.ShloMosaic.Lib.Pipeline.FrameSuffixR

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The sum over both arrays' squared differences, of the node arrays. -/
def nodeSum (x y : FVec F S3x100000 .f32) : F .f32 :=
  extractAt ![0, 0, 0] (shapeCast S1x1x1 (multiReduction .add [1, 2] S1
    (shapeCast S1x3x100000 (mulf (subf x y) (subf x y)) shapeCasts_S3x100000_S1x3x100000)
    0x00000000#32 reduces_S1x3x100000_S1 (.inl rfl) rfl) shapeCasts_S1_S1x1x1) inpos_S1x1x1_p0_0_0

/-- The same over one stretch of 12000 rows of the edge arrays. -/
def edgeSum (x y : FVec F S12000x128 .f32) : F .f32 :=
  extractAt ![0, 0, 0] (shapeCast S1x1x1 (multiReduction .add [1, 2] S1
    (shapeCast S1x12000x128 (mulf (subf x y) (subf x y)) shapeCasts_S12000x128_S1x12000x128)
    0x00000000#32 reduces_S1x12000x128_S1 (.inl rfl) rfl) shapeCasts_S1_S1x1x1) inpos_S1x1x1_p0_0_0

/-- The same over the last 2000 rows. -/
def tailSum (x y : FVec F S2000x128 .f32) : F .f32 :=
  extractAt ![0, 0, 0] (shapeCast S1x1x1 (multiReduction .add [1, 2] S1
    (shapeCast S1x2000x128 (mulf (subf x y) (subf x y)) shapeCasts_S2000x128_S1x2000x128)
    0x00000000#32 reduces_S1x2000x128_S1 (.inl rfl) rfl) shapeCasts_S1_S1x1x1) inpos_S1x1x1_p0_0_0

/-- The node term's factor, one over the number of segments. -/
def nodeScale : F .f32 := Scalar.ofBits .f32 0x3B000000#32
/-- The edge terms' factor, half of that. -/
def edgeScale : F .f32 := Scalar.ofBits .f32 0x3A800000#32

/-- The 12000 rows of an edge array from row `o`. -/
def rows (o : ℕ) (h : ∀ a, (![o, 0] : Fin 2 → ℕ) a + S12000x128.size a ≤ S50000x128.size a) (f : S50000x128.Idx → F .f32) :
    FVec F S12000x128 .f32 :=
  fun i => f ((Rect.unit (s := S50000x128) ![o, 0] S12000x128.size h).emb i)

/-- The last 2000 rows of an edge array. -/
def tailRows (f : S50000x128.Idx → F .f32) : FVec F S2000x128 .f32 :=
  fun i => f ((Rect.unit (s := S50000x128) ![48000, 0] S2000x128.size inb_S50000x128_S2000x128_48000_0).emb i)

/-- One more stretch's scaled sum, added. -/
def addEdge (acc s : F .f32) : F .f32 := Scalar.addf acc (Scalar.mulf s edgeScale)

/-- What the body stores: the node term, then the five stretches in turn. -/
def loss (x y : FVec F S3x100000 .f32) (p q : S50000x128.Idx → F .f32) : F .f32 :=
  addEdge (addEdge (addEdge (addEdge (addEdge (Scalar.mulf (nodeSum x y) nodeScale)
    (edgeSum (rows 0 inb_S50000x128_S12000x128_0_0 p) (rows 0 inb_S50000x128_S12000x128_0_0 q)))
    (edgeSum (rows 12000 inb_S50000x128_S12000x128_12000_0 p) (rows 12000 inb_S50000x128_S12000x128_12000_0 q)))
    (edgeSum (rows 24000 inb_S50000x128_S12000x128_24000_0 p) (rows 24000 inb_S50000x128_S12000x128_24000_0 q)))
    (edgeSum (rows 36000 inb_S50000x128_S12000x128_36000_0 p) (rows 36000 inb_S50000x128_S12000x128_36000_0 q)))
    (tailSum (tailRows p) (tailRows q))

/-! The printed operations between the loads, in these names. -/

theorem node_step (x y : FVec F S3x100000 .f32) : k0_pay2 x y = Scalar.mulf (nodeSum x y) nodeScale := rfl
theorem first_sum (a b : FVec F S1x12000x128 .f32) : k0_pay3 a b
    = edgeSum (shapeCast S12000x128 a shapeCasts_S1x12000x128_S12000x128) (shapeCast S12000x128 b shapeCasts_S1x12000x128_S12000x128) := rfl
theorem first_step (acc s : F .f32) : k0_pay4 acc s = addEdge acc s := rfl
theorem second_step (acc : F .f32) (a b : FVec F S1x12000x128 .f32) : k0_pay6 acc (k0_pay5 a) b
    = addEdge acc (edgeSum (shapeCast S12000x128 a shapeCasts_S1x12000x128_S12000x128) (shapeCast S12000x128 b shapeCasts_S1x12000x128_S12000x128)) := rfl
theorem third_step (acc : F .f32) (a b : FVec F S1x12000x128 .f32) : k0_pay7 acc a b
    = addEdge acc (edgeSum (shapeCast S12000x128 a shapeCasts_S1x12000x128_S12000x128) (shapeCast S12000x128 b shapeCasts_S1x12000x128_S12000x128)) := rfl
theorem fourth_step (acc : F .f32) (a b : FVec F S1x12000x128 .f32) : k0_pay8 acc a b
    = addEdge acc (edgeSum (shapeCast S12000x128 a shapeCasts_S1x12000x128_S12000x128) (shapeCast S12000x128 b shapeCasts_S1x12000x128_S12000x128)) := rfl
theorem last_step (acc : F .f32) (a b : FVec F S1x2000x128 .f32) : k0_pay1 acc (k0_pay9 a) b
    = addEdge acc (tailSum (shapeCast S2000x128 a shapeCasts_S1x2000x128_S2000x128) (shapeCast S2000x128 b shapeCasts_S1x2000x128_S2000x128)) := rfl

end Cert.KernelIdeal.Loss

end
-- ==== Proof.Ideal.BodyRun.lean ====
/- The run of the kernel body: from its four arrays it leaves `loss` of them in its one output word. -/
module

public import proofs.«01_k».proof.Proof.Ideal.Slots
public import proofs.«01_k».proof.Proof.Ideal.BodyValue
public import Idealize.ShloMosaic.Lib.VecWindow
public import proofs.«01_k».proof.Proof.Gen.KernelIdeal.Skeleton
public import Idealize.ShloMosaic.Lib.Pipeline.FrameSuffixR

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A load of a whole array a copy has filled reads what was copied. -/
theorem load_copied {sg : RefSig} {κ : Kind} {sp : Space} {s : Shape} {e : EltTy} {Val : EltTy → Type} [∀ e, Nonempty (Val e)]
    (v : View sg κ sp s e) (w : s.Idx → Val e) {off : Fin s.rank → ℕ} (inb : ∀ a, off a + s.size a ≤ s.size a) :
    v.readCov [⟨Rect.whole s, w⟩] (Rect.unit off s.size inb).toLoadRect = w :=
  View.readCov_full v inb (fun _ => by simp) w []

set_option maxHeartbeats 1000000 in set_option sl_exec.dmaWindow true in set_option sl_exec.dmaWindowSet true in
/-- From any scratch contents, with its six semaphores at zero, the body runs, leaves `loss` of the four operands in its
    output word, the operands as they were and the semaphores at zero. -/
theorem bodyRun (c : Dev nD) (arg4 : Memref sig .tc .smem S1x1 .f32) (harg4 : arg4.IsWhole) (arg5 : Memref sig .tc .vmem S3x100000 .f32) (harg5 : arg5.IsWhole) (arg6 : Memref sig .tc .vmem S3x100000 .f32) (harg6 : arg6.IsWhole) (arg7 : Memref sig .tc .vmem S2x12000x128 .f32) (harg7 : arg7.IsWhole) (arg8 : Memref sig .tc .vmem S2x12000x128 .f32) (harg8 : arg8.IsWhole)
     (fh0 : Held (F := F) c srcPX) (fh1 : Held (F := F) c srcTX) (fh2 : Held (F := F) c srcPQ) (fh3 : Held (F := F) c srcTQ) :
      ∀ (W : Waits sig Unit) (K : PUnit → sProp 𝕄),
        iprop((∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ held c srcPX fh0 ∗ held c srcTX fh1 ∗ held c srcPQ fh2 ∗ held c srcTQ fh3 ∗ owes (c : Thread nD τ) 0 W
            ∗ (iprop(owns (c : Thread nD τ) arg4 fullShare (fun _ => loss fh0 fh1 fh2 fh3) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ held c srcPX fh0 ∗ held c srcTX fh1 ∗ held c srcPQ fh2 ∗ held c srcTQ fh3 ∗ (∃ W', owes (c : Thread nD τ) 0 W')) -∗ K ⟨⟩))
          ⊢ wp frame (wpE (defs₀ (F := F)) Variants.none c none) Set.univ (cc0__loss_body (Memref.whole main_v0) (Memref.isWhole_whole _) (Memref.whole main_v1) (Memref.isWhole_whole _) (Memref.whole main_v2) (Memref.isWhole_whole _) (Memref.whole main_v3) (Memref.isWhole_whole _) arg4 harg4 arg5 harg5 arg6 harg6 arg7 harg7 arg8 harg8 cc0_scratch4 cc0_scratch5 cc0_scratch6) K := by
    intro W K
    simp only [cc0__loss_body_eq_skeleton]; unfold cc0__loss_body_skel
    simp only [k0_part1_eq_skeleton, k0_part2_eq_skeleton, k0_part3_eq_skeleton, k0_part4_eq_skeleton, k0_part5_eq_skeleton, k0_part6_eq_skeleton]
    unfold owns
    iintro ⟨⟨%d0, %f0, -, H0⟩, ⟨%ds0, %fs0, -, HS0⟩, ⟨%ds1, %fs1, -, HS1⟩, ⟨%ds2, %fs2, -, HS2⟩, ⟨%ds3, %fs3, -, HS3⟩, Hq0, Hq1, Hq2, Hq3, Hq4, Hq5, Hh0, Hh1, Hh2, Hh3, HW, Hk⟩
    sl_exec
    sl_step
    iapply Hk
    isplitl [H0]
    · iexists _; isplitr; swap; · iexact H0
      ipureintro
      refine (View.read_writes_full arg4.view f0 inb_S1x1_S1x1_0_0 _ []).trans ?_
      funext _
      delta bodyRun.sl.r_6 bodyRun.sl.r_7 bodyRun.sl.r_5 bodyRun.sl.r_4 bodyRun.sl.r_3 bodyRun.sl.r_2 bodyRun.sl.r_1 bodyRun.sl.r
      rw [last_step, fourth_step, third_step, second_step, first_step, first_sum, node_step]
      refine congrArg₂ addEdge (congrArg₂ addEdge (congrArg₂ addEdge (congrArg₂ addEdge (congrArg₂ addEdge
        (congrArg (fun u => Scalar.mulf u nodeScale) (congrArg₂ nodeSum ?_ ?_)) (congrArg₂ edgeSum ?_ ?_)) (congrArg₂ edgeSum ?_ ?_))
        (congrArg₂ edgeSum ?_ ?_)) (congrArg₂ edgeSum ?_ ?_)) (congrArg₂ tailSum ?_ ?_)
      · delta bodyRun.sl.v28; exact load_copied _ _ _
      · delta bodyRun.sl.v29; exact load_copied _ _ _
      · delta bodyRun.sl.v47; rw [load_other _ _ _ _ _ slot0_slot1]; exact load_filled _ _ _ _ _ _ _
      · delta bodyRun.sl.v49; rw [load_other _ _ _ _ _ slot0_slot1]; exact load_filled _ _ _ _ _ _ _
      · delta bodyRun.sl.v79; rw [load_other _ _ _ _ _ slot0_slot1.symm]; exact load_filled _ _ _ _ _ _ _
      · delta bodyRun.sl.v81; rw [load_other _ _ _ _ _ slot0_slot1.symm]; exact load_filled _ _ _ _ _ _ _
      · delta bodyRun.sl.v111; rw [load_other _ _ _ _ _ slot0_slot1]; exact load_filled _ _ _ _ _ _ _
      · delta bodyRun.sl.v113; rw [load_other _ _ _ _ _ slot0_slot1]; exact load_filled _ _ _ _ _ _ _
      · delta bodyRun.sl.v143; rw [load_other _ _ _ _ _ slot1_head]; exact load_filled _ _ _ _ _ _ _
      · delta bodyRun.sl.v145; rw [load_other _ _ _ _ _ slot1_head]; exact load_filled _ _ _ _ _ _ _
      · delta bodyRun.sl.v165; exact load_filled _ _ _ _ _ _ _
      · delta bodyRun.sl.v167; exact load_filled _ _ _ _ _ _ _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    isplitl [Hh3]; · iexact Hh3
    iexists _; iexact HW

end Cert.KernelIdeal.Loss

end
-- ==== Proof.Ideal.Launch.lean ====
/- The launch of the idealized kernel with its output word named: the body's run fitted to the region, and the run of the
   whole program. -/
module

public import proofs.«01_k».proof.Proof.Ideal.BodyRun
public import Idealize.ShloMosaic.Lib.Claim
public import proofs.«01_k».proof.Proof.Gen.KernelIdeal.Skeleton
public import Idealize.ShloMosaic.Lib.Pipeline.FrameSuffixR

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the region leaves in its one output word, from the operands it finds. -/
def lossAt (c : Dev nD) : F .f32 :=
  loss (F := F) (V m c main_v0) (V m c main_v1) (V m c main_v2) (V m c main_v3)

/-- The region's data on core `c`: the output array as the region finds it, its word at `lossAt` after the body, and
    before and after the body the scratch, the register, the six semaphores at zero and the four operands untouched. -/
def dats (_ : Fin 1) (c : Dev nD) : Dat τ (Elt F) Unit ℕ (Pipeline.UD sig nD τ) ℕ cfg0 c where
  A w := V m c (Pipeline.arrRef spec0 w)
  after w t := match w with
    | ⟨0, h⟩ => fun _ => lossAt m c
  Φ _ := Pipeline.ΦD copySems spec0 sources (V m) c
  q _ := fullShare
  owed _ := 0

/-- The data's arrays are the ones the region finds. -/
theorem A_eq (c : Dev nD) (w : Fin cfg0.W) : (dats m 0 c).A w = V m c (Pipeline.arrRef spec0 w) := by
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (outStage t) fullShare ((dats m 0 c).before (0 : Fin 1) t d)))

/-- and what it returns: the output word at `lossAt`. -/
def bodyPost (c : Dev nD) (t : Fin cfg0.N) : sProp 𝕄 :=
  iprop((dats m 0 c).Φ t.succ ∗ (dats m 0 c).owesAt () t.succ
    ∗ owns (c : Thread nD τ) (outStage t) fullShare ((dats m 0 c).after (0 : Fin 1) t))

/-- The body meets the region's data: `bodyRun` at the operands the region finds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD copySems spec0 sources (V m) c from rfl, invariant_eq]
  rw [show (dats m 0 c).after (0 : Fin 1) t = (fun _ => lossAt m c) from rfl]
  unfold Dat.owesAt Pipeline.owesWithin
  rw [show (dats m 0 c).owed t.castSucc = 0 from rfl, show (dats m 0 c).owed t.succ = 0 from rfl]
  iintro ⟨⟨⟨HS0, HS1, HS2, HS3⟩, Hg, ⟨Hq0, Hq1, Hq2, Hq3, Hq4, Hq5⟩, ⟨Hh0, Hh1, Hh2, Hh3⟩⟩, ⟨%W, -, HW⟩, ⟨%d0, H0⟩⟩
  iapply ((bodyRun c _ _ _ _ _ _ _ _ _ _ (V m c main_v0) (V m c main_v1) (V m c main_v2) (V m c main_v3)) W _)
  isplitl [H0]; · iexists _; iexact H0
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  isplitl [Hh3]; · iexact Hh3
  isplitl [HW]; · iexact HW
  iintro ⟨H0, HS0, HS1, HS2, HS3, Hq0, Hq1, Hq2, Hq3, Hq4, Hq5, Hh0, Hh1, Hh2, Hh3, ⟨%W', HW'⟩⟩
  isplitl [HS0 HS1 HS2 HS3 Hg Hq0 Hq1 Hq2 Hq3 Hq4 Hq5 Hh0 Hh1 Hh2 Hh3]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  iexact H0

/-- The body table's row is the body. -/
theorem body_row (t : Fin cfg0.N) :
    defs₀ (F := F) .tc cfg0.body (cfg0.bodyArgs t (cfg0.slots t)) = bodyAt0 t := by
  unfold defs₀; rw [Defs.onTc_tc]

/-- So the body meets its obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The whole program runs: the output array ends as the data say, every other array as the host line after the region
    leaves it, and every semaphore at zero. -/
theorem run_program : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 copySems defs₀ Variants.none copySems_own sources sources_rest m ρ main
    (hbody := fun c => (body_obligation m c).loose) (hshare := fun c => (dats m 0 c).share_full fun _ => rfl)
    (howed := fun _ _ => rfl) (V₀ := V0 m) (opss := [hostOps1]) (hsub := suffix_avoids) (hfresh := sfx_fresh) (hkeep := sfx_keeps)
    (hmain := main_around m Variants.none) (hA := A_eq m) (hin := fun _ => .rfl) (hout := fun _ => .rfl)

end Cert.KernelIdeal.Loss

end
-- ==== Proof.Ideal.Result.lean ====
/- What the idealized kernel's result and arguments hold at the end. -/
module

public import proofs.«01_k».proof.Proof.Ideal.Launch
public import Idealize.ShloMosaic.Lib.Pipeline.Value
public import proofs.«01_k».proof.Proof.Gen.KernelIdeal.Skeleton
public import Idealize.ShloMosaic.Lib.Pipeline.FrameSuffixR

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The one point's transfer moves the whole output word, so the output array ends holding `lossAt`. -/
theorem output_array (c : Dev nD) : (dats m 0 c).arrAt (0 : Fin 1) cfg0.N = fun _ => lossAt m c := by
  refine (dats m 0 c).arrAt_eq_of_cover (0 : Fin 1) (fun _ => lossAt m c) (fun t _ => rfl) fun i => ?_
  refine ⟨t0_0, flush0_0 t0_0, ?_⟩
  show i ∈ ((View.whole main_v4).slice (win0_0.rect t0_0)).set
  rw [View.set_slice_whole, Rect.mem_set_unit]
  intro a
  have h0 : (i 0 : ℕ) < 1 := (i 0).isLt
  have h1 : (i 1 : ℕ) < 1 := (i 1).isLt
  match a with
  | ⟨0, _⟩ => show win0_0.index t0_0 0 * win0_0.size 0 ≤ (i 0 : ℕ) ∧ (i 0 : ℕ) < win0_0.index t0_0 0 * win0_0.size 0 + win0_0.xsize (grid0.coords t0_0) 0
              have e : win0_0.index t0_0 0 * win0_0.size 0 = 0 := by decide
              have e' : win0_0.xsize (grid0.coords t0_0) 0 = 1 := by decide
              omega
  | ⟨1, _⟩ => show win0_0.index t0_0 1 * win0_0.size 1 ≤ (i 1 : ℕ) ∧ (i 1 : ℕ) < win0_0.index t0_0 1 * win0_0.size 1 + win0_0.xsize (grid0.coords t0_0) 1
              have e : win0_0.index t0_0 1 * win0_0.size 1 = 0 := by decide
              have e' : win0_0.xsize (grid0.coords t0_0) 1 = 1 := by decide
              omega

/-- The host line after the region writes its own result only: any other array outside the region's output keeps what it held
    when the region was entered. -/
theorem tail_other (c : Dev nD) (b : Ref sig .tc) (hb : b ≠ main_v5) (ho : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.reshape_writes, Finset.mem_singleton]
      exact StableHlo.devRef_ne_of_ne hb)),
    Pipeline.withArrays_of_ne _ c (V0 m c) _ b ho]

/-! The six arguments end as they began. -/

theorem keeps_arg0 (c : Dev nD) :
    Pipeline.afterTail₀ cfgs (dats m) 0 (V0 m) [hostOps1] c main_arg0 = m ((c : Thread nD τ).loc main_arg0) :=
  (tail_other m c main_arg0 (by decide) (by decide)).trans (V_main_arg0 m c)

theorem keeps_arg1 (c : Dev nD) :
    Pipeline.afterTail₀ cfgs (dats m) 0 (V0 m) [hostOps1] c main_arg1 = m ((c : Thread nD τ).loc main_arg1) :=
  (tail_other m c main_arg1 (by decide) (by decide)).trans (V_main_arg1 m c)

theorem keeps_arg2 (c : Dev nD) :
    Pipeline.afterTail₀ cfgs (dats m) 0 (V0 m) [hostOps1] c main_arg2 = m ((c : Thread nD τ).loc main_arg2) :=
  (tail_other m c main_arg2 (by decide) (by decide)).trans (V_main_arg2 m c)

theorem keeps_arg3 (c : Dev nD) :
    Pipeline.afterTail₀ cfgs (dats m) 0 (V0 m) [hostOps1] c main_arg3 = m ((c : Thread nD τ).loc main_arg3) :=
  (tail_other m c main_arg3 (by decide) (by decide)).trans (V_main_arg3 m c)

theorem keeps_arg4 (c : Dev nD) :
    Pipeline.afterTail₀ cfgs (dats m) 0 (V0 m) [hostOps1] c main_arg4 = m ((c : Thread nD τ).loc main_arg4) :=
  (tail_other m c main_arg4 (by decide) (by decide)).trans (V_main_arg4 m c)

theorem keeps_arg5 (c : Dev nD) :
    Pipeline.afterTail₀ cfgs (dats m) 0 (V0 m) [hostOps1] c main_arg5 = m ((c : Thread nD τ).loc main_arg5) :=
  (tail_other m c main_arg5 (by decide) (by decide)).trans (V_main_arg5 m c)

/-- The result ends as the one word the region left. -/
theorem result_word (c : Dev nD) :
    Pipeline.afterTail₀ cfgs (dats m) 0 (V0 m) [hostOps1] c main_v5 = fun _ => lossAt m c := by
  have h : Pipeline.withArrays spec0 c (V0 m c) (fun w => (dats m 0 c).arrAt w cfg0.N) (Proc.devRef .tc main_v4) = fun _ => lossAt m c :=
    (Pipeline.Dat.withArrays_arrAt (dats m 0 c) (Pipeline.SharedIn.of_injective launch0.win.arr_inj) (V0 m c) (A_eq m c) (0 : Fin 1)).trans (output_array m c)
  unfold Pipeline.afterTail₀
  show StableHlo.after hostOps1 _ _ = _
  after_results
  rw [h]; rfl

/-- The program runs: its result is `lossAt`, its arguments end unchanged and every semaphore ends at zero. -/
theorem run_result : θ_run defs (onTc (τ := τ) (main (F := F))) ⟨m, fun _ => 0, ρ⟩ (fun r => (∀ c : Dev nD,
      r.2.mem ((c.tc : Thread nD τ).loc main_v5) = (fun _ => lossAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_v5 (Pipeline.mem_restRefs_of main_v5 (by decide) (by decide))).trans (result_word m c),
     ((h.1 c).2 main_arg0 (Pipeline.mem_restRefs_of main_arg0 (by decide) (by decide))).trans (keeps_arg0 m c),
     ((h.1 c).2 main_arg1 (Pipeline.mem_restRefs_of main_arg1 (by decide) (by decide))).trans (keeps_arg1 m c),
     ((h.1 c).2 main_arg2 (Pipeline.mem_restRefs_of main_arg2 (by decide) (by decide))).trans (keeps_arg2 m c),
     ((h.1 c).2 main_arg3 (Pipeline.mem_restRefs_of main_arg3 (by decide) (by decide))).trans (keeps_arg3 m c),
     ((h.1 c).2 main_arg4 (Pipeline.mem_restRefs_of main_arg4 (by decide) (by decide))).trans (keeps_arg4 m c),
     ((h.1 c).2 main_arg5 (Pipeline.mem_restRefs_of main_arg5 (by decide) (by decide))).trans (keeps_arg5 m c)⟩, h.2⟩) (run_program m ρ)

end Cert.KernelIdeal.Loss

end
-- ==== Proof.Same.Frame.lean ====
/- The kernel's own frame: its program is the idealized kernel's, whose run is proved at any number format. -/
module

public import proofs.«01_k».proof.Proof.Gen.Kernel
public import proofs.«01_k».proof.Proof.Ideal.Result

@[expose] public section

set_option maxRecDepth 16384

noncomputable section

namespace Cert.Kernel.Loss

open Idealize.ShloMosaic Idealize.ShloMosaic.TcCoe Idealize.SL.Sem
open Cert.Kernel.Gen

variable {F : FTy → Type} [FloatOps F]

/-- The two programs' bodies are the same. -/
theorem body_eq : @cc0__loss_body F _ _ = @Cert.KernelIdeal.cc0__loss_body F _ _ := rfl

/-- So the tables their one label calls are the same. -/
theorem bodies_eq : defs₀ (F := F) = Cert.KernelIdeal.defs₀ (F := F) := by
  refine congrArg (Defs.onTc (nD := nD) (τ := τ) (sig := sig) (Val := Elt F) (Λ := Λ₀)) (funext fun ℓ => funext fun a => ?_)
  match ℓ, a with
  | 0, (t, s) => rfl
  | ⟨_ + 1, h⟩, _ => exact absurd h (Nat.not_lt.2 (Nat.le_add_left _ _))

/-- And the pipeline's. -/
theorem defs_eq : defs (F := F) = Cert.KernelIdeal.defs (F := F) :=
  congrArg (Pipeline.defs (pcfgs (F := F))) bodies_eq

/-- Their lines are the same. -/
theorem main_eq : main (F := F) = Cert.KernelIdeal.main (F := F) := rfl

variable (m : (ℓ : Loc nD τ sig) → Buf (Elt F) ℓ) (ρ : Dev nD → PrngReg)

/-- So the kernel runs: its arguments end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq, main_eq]
  exact (θ_run Cert.KernelIdeal.defs _ _).mono (fun _ h => ⟨fun c => (h.1 c).2, h.2⟩) (Cert.KernelIdeal.Loss.run_result m ρ)

end Cert.Kernel.Loss

end
-- ==== Proof.Reference.Range.lean ====
/- The precondition read at an index: the index words lie between 0 and 511. -/
module

public import proofs.«01_k».proof.Defs
public import Idealize.ShloMosaic.Lib.Affine

@[expose] public section

noncomputable section

namespace Cert.Pre_merge_in_range

open Idealize.ShloMosaic

/-- The facts of the precondition's program. -/
theorem facts : Facts := ⟨by decide, by decide⟩

/-- A word passing both comparisons is at least 0 and less than 512. -/
theorem word_in_range (w : BitVec 32) (h : IntOp.andi (IntOp.cmpi .sge w 0#32) (IntOp.cmpi .slt w 512#32) = 1#1) :
    0 ≤ w.toInt ∧ w.toInt < 512 := by
  obtain ⟨h1, h2⟩ := IntOp.andi_eq_one.1 h
  simp only [IntOp.cmpi, BitVec.sle, BitVec.slt] at h1 h2
  constructor
  · by_contra hc
    rw [decide_eq_false (by simpa using hc)] at h1
    exact absurd h1 (by decide)
  · by_contra hc
    rw [decide_eq_false (by simpa using hc)] at h2
    exact absurd h2 (by decide)

attribute [local instance] facts

/-- The precondition puts every segment number in range, the edges' and the nodes'. -/
theorem in_range (px tx : FVec Ideal S100000x3 .f32) (pq tq : FVec Ideal S6400000 .f32) (edge : IVec S6400000 32) (node : IVec S100000 32)
    (h : (fn (F := Ideal) px pq tx tq edge node).1 = (fun _ => 1#1) ∧ (fn (F := Ideal) px pq tx tq edge node).2 = fun _ => 1#1) :
    (∀ p, 0 ≤ (edge p).toInt ∧ (edge p).toInt < 512) ∧ ∀ p, 0 ≤ (node p).toInt ∧ (node p).toInt < 512 :=
  ⟨fun p => word_in_range _ (congrFun h.1 p), fun p => word_in_range _ (congrFun h.2 p)⟩

end Cert.Pre_merge_in_range

end
-- ==== Proof.Math.Sums.lean ====
/- Sums over the extended reals: reductions, scatters and reshapes leave the total of the elements unchanged, and a sum
   over rows splits at a row. -/
module

public import Idealize.ShloMosaic.PureOps.Ideal.Laws
public import Idealize.ShloMosaic.Lib.IdealHost
public import Idealize.ShloMosaic.Lib.Pointwise
public import Idealize.ShloMosaic.Lib.Routing.OpsPair

@[expose] public section

noncomputable section

namespace Cert.Totals

open Idealize.ShloMosaic Idealize.ShloMosaic.Routing
open scoped BigOperators

/-- A square is not negative, at the infinities too. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- Summing, group by group, the elements a map sends to each group gives the sum of all the elements. -/
theorem sum_groups {ι κ : Type*} [Fintype ι] [Fintype κ] [DecidableEq κ] (g : ι → κ) (u : ι → EReal) :
    ∑ k, ∑ i ∈ Finset.univ.filter (fun i => g i = k), u i = ∑ i, u i :=
  Finset.sum_fiberwise Finset.univ g u

/-- The entries of a sum along some axes, begun at zero, add up to the total of the array. -/
theorem sum_hostReduceAdd {s t : Shape} {axes : List (Fin s.rank)} (h : s.ReducesTo axes t) (x : s.Idx → EReal) :
    ∑ j, Ideal.hostReduceAdd h x 0 j = ∑ i, x i := by
  unfold Ideal.hostReduceAdd
  simp only [zero_add]
  exact sum_groups h.drop x

/-- The entries of an accumulating scatter into zeros add up to the total of the updates, when every update lands inside. -/
theorem sum_hostScatterAdd {s si su : Shape} (d : ScatterDims s si su) {w : ℕ} (idx : IVec si w) (upd : su.Idx → EReal)
    (hin : ∀ j, ∃ i, d.resultIdx? j idx = some i) :
    ∑ i, Ideal.hostScatterAdd d (fun _ => 0) idx upd i = ∑ j, upd j := by
  choose g hg using hin
  unfold Ideal.hostScatterAdd
  simp only [zero_add, hg, Option.some.injEq]
  exact sum_groups g upd

/-- A reshape keeps the total. -/
theorem sum_shapeCast {s t : Shape} (h : s.ShapeCasts t) (x : s.Idx → EReal) : ∑ j, shapeCast t x h j = ∑ i, x i := by
  unfold shapeCast
  exact Equiv.sum_comp (Shape.reshapeEquiv h) x

/-- A sum over `a + b` rows is the sum over the first `a` and the sum over the last `b`. -/
theorem sum_rows_split {a b n : ℕ} (h : a + b = n) (f : Fin n → EReal) :
    ∑ r, f r = (∑ r : Fin a, f ⟨r.val, by omega⟩) + ∑ r : Fin b, f ⟨a + r.val, by omega⟩ := by
  subst h
  exact Fin.sum_univ_add f

/-- The total of the squared differences of two arrays. -/
def squares {s : Shape} (x y : s.Idx → EReal) : EReal := ∑ i, (x i - y i) * (x i - y i)

/-- A total of squares is not negative. -/
theorem squares_nonneg {s : Shape} (x y : s.Idx → EReal) : 0 ≤ squares x y :=
  Finset.sum_nonneg fun _ _ => square_nonneg _

/-- Reshaping both arrays keeps the total. -/
theorem squares_shapeCast {s t : Shape} (h : s.ShapeCasts t) (x y : s.Idx → EReal) :
    squares (shapeCast t x h) (shapeCast t y h) = squares x y :=
  sum_shapeCast h fun i => (x i - y i) * (x i - y i)

/-- Both programs' common value: the node total over 512, plus the edge total over 1024. -/
def meanLoss (nodes edges : EReal) : EReal := nodes * ((1 / 512 : ℝ) : EReal) + edges * ((1 / 1024 : ℝ) : EReal)

end Cert.Totals

end
-- ==== Proof.Ideal.Total.lean ====
/- The kernel's result over the extended reals: the totals of the squared errors, scaled. -/
module

public import proofs.«01_k».proof.Proof.Ideal.BodyValue
public import proofs.«01_k».proof.Proof.Math.Sums
public import Idealize.ShloMosaic.Lib.Pipeline.Value

@[expose] public section

set_option maxRecDepth 16384

noncomputable section

namespace Cert.KernelIdeal.Loss

open Idealize.ShloMosaic
open Cert.KernelIdeal.Gen Cert.Totals
open scoped BigOperators

/-- The body's reduction of two arrays, for any of the shapes it meets: the total of the squared differences. -/
theorem reduced_total {s t : Shape} {axes : List (Fin t.rank)} (hc : s.ShapeCasts t) (hr : t.Reduces axes S1) (x y : FVec Ideal s .f32) :
    (extractAt ![0, 0, 0] (shapeCast S1x1x1 (multiReduction (F := Ideal) .add axes S1 (shapeCast t (mulf (subf x y) (subf x y)) hc)
      0x00000000#32 hr (.inl rfl) rfl) shapeCasts_S1_S1x1x1) inpos_S1x1x1_p0_0_0 : EReal) = squares x y := by
  refine (Ideal.multiReduction_add_total (shapeCast t (mulf (subf x y) (subf x y)) hc) 0x00000000#32 hr (by decide) (.inl rfl) rfl
    (Shape.reshapeEquiv shapeCasts_S1_S1x1x1 fun a => ⟨![0, 0, 0] a, inpos_S1x1x1_p0_0_0 a⟩)).trans ?_
  exact sum_shapeCast hc fun i => (x i - y i) * (x i - y i)

/-- So of the node arrays, of a stretch of edge rows, and of the last rows. -/
theorem nodeSum_eq (x y : FVec Ideal S3x100000 .f32) : (nodeSum (F := Ideal) x y : EReal) = squares x y := reduced_total _ _ x y
theorem edgeSum_eq (x y : FVec Ideal S12000x128 .f32) : (edgeSum (F := Ideal) x y : EReal) = squares x y := reduced_total _ _ x y
theorem tailSum_eq (x y : FVec Ideal S2000x128 .f32) : (tailSum (F := Ideal) x y : EReal) = squares x y := reduced_total _ _ x y

/-- The node factor is 1/512. -/
theorem nodeScale_eq : (nodeScale (F := Ideal) : EReal) = ((1 / 512 : ℝ) : EReal) := by
  show Ideal.ofBits .f32 0x3B000000#32 = _
  simp [Ideal.ofBits, Ideal.ieee, -EReal.coe_mul]; norm_num

/-- The edge factor is 1/1024. -/
theorem edgeScale_eq : (edgeScale (F := Ideal) : EReal) = ((1 / 1024 : ℝ) : EReal) := by
  show Ideal.ofBits .f32 0x3A800000#32 = _
  simp [Ideal.ofBits, Ideal.ieee, -EReal.coe_mul]; norm_num

/-- Transposing both arrays keeps the total. -/
theorem squares_transpose (h : S100000x3.Transposes [1, 0] S3x100000) (x y : FVec Ideal S100000x3 .f32) :
    squares (transpose S3x100000 [1, 0] x h) (transpose S3x100000 [1, 0] y h) = squares x y := by
  unfold squares
  rw [sum_idx2, sum_idx2, Finset.sum_comm]
  refine Finset.sum_congr rfl fun a _ => Finset.sum_congr rfl fun b _ => ?_
  have read (v : FVec Ideal S100000x3 .f32) : transpose S3x100000 [1, 0] v h (ix2 b a) = v (ix2 a b) :=
    transpose_apply _ v h _ _ fun c => match c with | ⟨0, _⟩ => rfl | ⟨1, _⟩ => rfl
  rw [read, read]

/-- One row's squared differences. -/
def rowSquares (p q : S50000x128.Idx → EReal) (r : Fin 50000) : EReal :=
  ∑ l : Fin 128, (p (ix2 r l) - q (ix2 r l)) * (p (ix2 r l) - q (ix2 r l))

/-- A row of a stretch sits in the whole array that many rows after the stretch's first. -/
theorem stretch_emb {n : ℕ} (o : ℕ) (h : ∀ a, (![o, 0] : Fin 2 → ℕ) a + (![n, 128] : Fin 2 → ℕ) a ≤ S50000x128.size a)
    (ho : o + n ≤ 50000) (r : Fin n) (l : Fin 128) :
    (Rect.unit (s := S50000x128) ![o, 0] ![n, 128] h).emb (ix2 r l) = ix2 (⟨o + r.val, by omega⟩ : Fin 50000) l := by
  funext a
  apply Fin.ext
  match a with
  | ⟨0, _⟩ => simp [Rect.emb, Rect.unit]
  | ⟨1, _⟩ => simp [Rect.emb, Rect.unit]

/-- A stretch's total is the sum of its rows'. -/
theorem stretch_total {n : ℕ} (o : ℕ) (h : ∀ a, (![o, 0] : Fin 2 → ℕ) a + (![n, 128] : Fin 2 → ℕ) a ≤ S50000x128.size a)
    (ho : o + n ≤ 50000) (p q : S50000x128.Idx → EReal) :
    squares (s := ⟨2, ![n, 128]⟩) (fun i => p ((Rect.unit (s := S50000x128) ![o, 0] ![n, 128] h).emb i))
      (fun i => q ((Rect.unit (s := S50000x128) ![o, 0] ![n, 128] h).emb i)) = ∑ r : Fin n, rowSquares p q ⟨o + r.val, by omega⟩ := by
  unfold squares rowSquares
  rw [sum_idx2]
  refine Finset.sum_congr rfl fun r _ => Finset.sum_congr rfl fun l _ => ?_
  beta_reduce
  rw [stretch_emb o h ho]

/-- The whole edge arrays' total is the five stretches'. -/
theorem stretches_total (p q : S50000x128.Idx → EReal) :
    squares p q
      = squares (rows (F := Ideal) 0 inb_S50000x128_S12000x128_0_0 p) (rows (F := Ideal) 0 inb_S50000x128_S12000x128_0_0 q)
      + (squares (rows (F := Ideal) 12000 inb_S50000x128_S12000x128_12000_0 p) (rows (F := Ideal) 12000 inb_S50000x128_S12000x128_12000_0 q)
      + (squares (rows (F := Ideal) 24000 inb_S50000x128_S12000x128_24000_0 p) (rows (F := Ideal) 24000 inb_S50000x128_S12000x128_24000_0 q)
      + (squares (rows (F := Ideal) 36000 inb_S50000x128_S12000x128_36000_0 p) (rows (F := Ideal) 36000 inb_S50000x128_S12000x128_36000_0 q)
      + squares (tailRows (F := Ideal) p) (tailRows (F := Ideal) q)))) := by
  have e0 := stretch_total (n := 12000) 0 inb_S50000x128_S12000x128_0_0 (by norm_num) p q
  have e1 := stretch_total (n := 12000) 12000 inb_S50000x128_S12000x128_12000_0 (by norm_num) p q
  have e2 := stretch_total (n := 12000) 24000 inb_S50000x128_S12000x128_24000_0 (by norm_num) p q
  have e3 := stretch_total (n := 12000) 36000 inb_S50000x128_S12000x128_36000_0 (by norm_num) p q
  have e4 := stretch_total (n := 2000) 48000 inb_S50000x128_S2000x128_48000_0 (by norm_num) p q
  have whole : squares p q = ∑ r : Fin 50000, rowSquares p q r := sum_idx2 _
  refine whole.trans ?_
  refine Eq.trans ?_ (congrArg₂ (· + ·) e0 (congrArg₂ (· + ·) e1 (congrArg₂ (· + ·) e2 (congrArg₂ (· + ·) e3 e4)))).symm
  rw [sum_rows_split (a := 12000) (b := 38000) (by norm_num), sum_rows_split (a := 12000) (b := 26000) (n := 38000) (by norm_num),
    sum_rows_split (a := 12000) (b := 14000) (n := 26000) (by norm_num), sum_rows_split (a := 12000) (b := 2000) (n := 14000) (by norm_num)]
  simp only [← Nat.add_assoc, Nat.zero_add, Nat.reduceAdd]

/-- The kernel's value is the node total over 512, plus the edge total over 1024. -/
theorem loss_total (x y : FVec Ideal S3x100000 .f32) (p q : S50000x128.Idx → EReal) :
    (loss (F := Ideal) x y p q : EReal) = meanLoss (squares x y) (squares p q) := by
  have step (acc s : EReal) : (addEdge (F := Ideal) acc s : EReal) = acc + s * ((1 / 1024 : ℝ) : EReal) :=
    congrArg (fun e : EReal => acc + s * e) edgeScale_eq
  have node (s : EReal) : (Scalar.mulf (F := Ideal) s nodeScale : EReal) = s * ((1 / 512 : ℝ) : EReal) :=
    congrArg (fun e : EReal => s * e) nodeScale_eq
  unfold loss meanLoss
  rw [step, step, step, step, step, node, nodeSum_eq, edgeSum_eq, edgeSum_eq, edgeSum_eq, edgeSum_eq, tailSum_eq, stretches_total]
  have n1 := fun (s : Shape) (a b : s.Idx → EReal) => squares_nonneg a b
  rw [EReal.right_distrib_of_nonneg (n1 _ _ _) (add_nonneg (n1 _ _ _) (add_nonneg (n1 _ _ _) (add_nonneg (n1 _ _ _) (n1 _ _ _)))),
    EReal.right_distrib_of_nonneg (n1 _ _ _) (add_nonneg (n1 _ _ _) (add_nonneg (n1 _ _ _) (n1 _ _ _))),
    EReal.right_distrib_of_nonneg (n1 _ _ _) (add_nonneg (n1 _ _ _) (n1 _ _ _)),
    EReal.right_distrib_of_nonneg (n1 _ _ _) (n1 _ _ _)]
  simp only [add_assoc]

end Cert.KernelIdeal.Loss

end
-- ==== Proof.Reference.Run.lean ====
/- What the reference program computes, and its run. -/
module

public import proofs.«01_k».proof.Proof.Gen.ReferenceIdeal
public import Idealize.ShloMosaic.Lib.StableHlo.RunHlo
public import Idealize.ShloMosaic.Lib.Claim
public import Idealize.ShloMosaic.Lib.Quiescent

@[expose] public section

set_option maxRecDepth 16384

noncomputable section

namespace Cert.ReferenceIdeal.Loss

open Idealize.ShloMosaic Idealize.ShloMosaic.TcCoe Idealize.SL.Sem
open Cert.ReferenceIdeal.Gen

variable {F : FTy → Type} [FloatOps F]

/-- The 512 segments' sums of the nodes' squared errors, each node's over its three coordinates. -/
def nodeSegments (px tx : FVec F S100000x3 .f32) (node : IVec S100000 32) : FVec F S512 .f32 :=
  Host.scatterAdd scatter_S512_S100000x1_S100000_n_0_0_1 (broadcastInDim S512 ![] bcast_S_S512 (constant S_ .f32 0x00000000#32))
    (broadcastInDim S100000x1 ![0] bcast_S100000_S100000x1_0 node)
    (Host.reduceAdd (mulf (subf px tx) (subf px tx)) (constant S_ .f32 0x00000000#32) reducesTo_S100000x3_S100000_d1 h_S_)

/-- The 512 segments' sums of the edges' squared errors. -/
def edgeSegments (pq tq : FVec F S6400000 .f32) (edge : IVec S6400000 32) : FVec F S512 .f32 :=
  Host.scatterAdd scatter_S512_S6400000x1_S6400000_n_0_0_1 (broadcastInDim S512 ![] bcast_S_S512 (constant S_ .f32 0x00000000#32))
    (broadcastInDim S6400000x1 ![0] bcast_S6400000_S6400000x1_0 edge) (mulf (subf pq tq) (subf pq tq))

/-- The mean over the segments. -/
def segmentMean (v : FVec F S512 .f32) : FVec F S_ .f32 :=
  Host.divf (Host.reduceAdd v (constant S_ .f32 0x00000000#32) reducesTo_S512_S_d0 h_S_) (constant S_ .f32 0x44000000#32)

/-- The reference's result: the node mean, plus half the edge mean. -/
def loss (px : FVec F S100000x3 .f32) (pq : FVec F S6400000 .f32) (tx : FVec F S100000x3 .f32) (tq : FVec F S6400000 .f32)
    (edge : IVec S6400000 32) (node : IVec S100000 32) : FVec F S_ .f32 :=
  addf (mulf (segmentMean (nodeSegments px tx node)) (constant S_ .f32 0x3F800000#32))
    (mulf (segmentMean (edgeSegments pq tq edge)) (constant S_ .f32 0x3F000000#32))

variable (m : (ℓ : Loc nD τ sig) → Buf (Elt F) ℓ) (ρ : Dev nD → PrngReg)

/-- `loss` of the arguments as the program finds them on core `c`. -/
def lossAt (c : Dev nD) : FVec F S_ .f32 :=
  loss (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The program runs: its result is `lossAt` and its arguments end unchanged. -/
theorem run_result : θ_run defs (onTc (τ := τ) (main (F := F))) ⟨m, fun _ => 0, ρ⟩ (fun r => ∀ c : Dev nD,
      r.2.mem ((c.tc : Thread nD τ).loc main_v17) = lossAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  rfl

/-- So its arguments end unchanged and, there being no semaphore, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (run_result m ρ)

end Cert.ReferenceIdeal.Loss

end
-- ==== Proof.Reference.Total.lean ====
/- The reference's result over the extended reals, for indices in range: the totals of the squared errors, divided. -/
module

public import proofs.«01_k».proof.Proof.Reference.Run
public import proofs.«01_k».proof.Proof.Math.Sums

@[expose] public section

set_option maxRecDepth 16384

noncomputable section

namespace Cert.ReferenceIdeal.Loss

open Idealize.ShloMosaic Idealize.ShloMosaic.Routing
open Cert.ReferenceIdeal.Gen Cert.Totals
open scoped BigOperators

/-- An update whose index word is in range lands in the segment the word names. -/
theorem lands {si su : Shape} (d : ScatterDims S512 si su) (hs : d.scatterDimsToOperandDims = [0])
    (idx : IVec si 32) (hidx : ∀ p, 0 ≤ (idx p).toInt ∧ (idx p).toInt < 512) (hk : (0 : Fin S512.rank) ∉ d.sKept) (j : su.Idx) :
    ∃ i, d.resultIdx? j idx = some i := by
  have hst : ∃ p, d.start j idx 0 = (idx p).toInt := by
    unfold ScatterDims.start
    rw [dif_pos (by rw [hs]; exact List.mem_singleton.2 rfl)]
    exact ⟨_, rfl⟩
  obtain ⟨p, hp⟩ := hst
  have hw : d.window j 0 = 0 := by
    unfold ScatterDims.window
    exact dif_neg hk
  have hr := hidx p
  refine ⟨Idealize.ShloMosaic.ix1 ⟨(idx p).toInt.toNat, by omega⟩, ?_⟩
  refine (resultIdx?_ix1 (N := 512) d j idx _).2 ?_
  rw [hp, hw]
  show (idx p).toInt + ((0 : ℕ) : ℤ) = (((idx p).toInt.toNat : ℕ) : ℤ)
  omega

/-- The constant 512. -/
theorem count_eq : Ideal.ofBits .f32 0x44000000#32 = ((512 : ℝ) : EReal) := by
  simp [Ideal.ofBits, Ideal.ieee, -EReal.coe_mul]; norm_num

/-- The constant one half. -/
theorem half_eq : Ideal.ofBits .f32 0x3F000000#32 = ((1 / 2 : ℝ) : EReal) := by
  simp [Ideal.ofBits, Ideal.ieee, -EReal.coe_mul]; norm_num

/-- The zeros a scatter starts from. -/
theorem zeros_eq : (broadcastInDim S512 ![] bcast_S_S512 (constant (F := Ideal) S_ .f32 0x00000000#32) : FVec Ideal S512 .f32) = fun _ => 0 :=
  funext fun _ => Ideal.ofBits_zero_f32

/-- The segments' mean is the total of the segments over 512. -/
theorem segmentMean_eq (v : FVec Ideal S512 .f32) (j : S_.Idx) :
    segmentMean (F := Ideal) v j = (∑ i, v i : EReal) * ((1 / 512 : ℝ) : EReal) := by
  show Ideal.div (Ideal.hostReduceAdd reducesTo_S512_S_d0 v (Ideal.ofBits .f32 0x00000000#32) j) (Ideal.ofBits .f32 0x44000000#32) = _
  rw [count_eq, Ideal.div_coe (by norm_num), Ideal.hostReduceAdd_total _ (fun b => b.elim0), Ideal.ofBits_zero_f32, zero_add]

/-- An accumulating scatter into the zeros adds up to the total of its updates, for index words in range. -/
theorem scatter_total {si su : Shape} (d : ScatterDims S512 si su) (hs : d.scatterDimsToOperandDims = [0])
    (idx : IVec si 32) (hidx : ∀ p, 0 ≤ (idx p).toInt ∧ (idx p).toInt < 512) (hk : (0 : Fin S512.rank) ∉ d.sKept)
    (upd : FVec Ideal su .f32) :
    (∑ i, Host.scatterAdd (F := Ideal) d (fun _ => (0 : EReal)) idx upd i : EReal) = ∑ j, (upd j : EReal) :=
  sum_hostScatterAdd d idx upd (lands d hs idx hidx hk)

/-- The node segments add up to the total of the nodes' squared errors. -/
theorem nodeSegments_total (px tx : FVec Ideal S100000x3 .f32) (node : IVec S100000 32)
    (hn : ∀ p, 0 ≤ (node p).toInt ∧ (node p).toInt < 512) :
    (∑ i, nodeSegments (F := Ideal) px tx node i : EReal) = squares px tx := by
  unfold nodeSegments
  rw [zeros_eq]
  rw [scatter_total _ rfl (broadcastInDim S100000x1 ![0] bcast_S100000_S100000x1_0 node) (fun _ => hn _) (by decide)]
  show ∑ j, Ideal.hostReduceAdd reducesTo_S100000x3_S100000_d1 (fun i => (px i - tx i) * (px i - tx i)) (Ideal.ofBits .f32 0x00000000#32) j = _
  rw [Ideal.ofBits_zero_f32]
  exact sum_hostReduceAdd _ _

/-- The edge segments add up to the total of the edges' squared errors. -/
theorem edgeSegments_total (pq tq : FVec Ideal S6400000 .f32) (edge : IVec S6400000 32)
    (he : ∀ p, 0 ≤ (edge p).toInt ∧ (edge p).toInt < 512) :
    (∑ i, edgeSegments (F := Ideal) pq tq edge i : EReal) = squares pq tq := by
  unfold edgeSegments
  rw [zeros_eq]
  rw [scatter_total _ rfl (broadcastInDim S6400000x1 ![0] bcast_S6400000_S6400000x1_0 edge) (fun _ => he _) (by decide)]
  rfl

/-- For indices in range, the reference's result is the node total over 512, plus the edge total over 1024. -/
theorem loss_total (px : FVec Ideal S100000x3 .f32) (pq : FVec Ideal S6400000 .f32) (tx : FVec Ideal S100000x3 .f32)
    (tq : FVec Ideal S6400000 .f32) (edge : IVec S6400000 32) (node : IVec S100000 32)
    (he : ∀ p, 0 ≤ (edge p).toInt ∧ (edge p).toInt < 512) (hn : ∀ p, 0 ≤ (node p).toInt ∧ (node p).toInt < 512) :
    loss (F := Ideal) px pq tx tq edge node = fun _ => meanLoss (squares px tx) (squares pq tq) := by
  funext j
  show (segmentMean (F := Ideal) (nodeSegments px tx node) j : EReal) * Ideal.ofBits .f32 0x3F800000#32
    + segmentMean (F := Ideal) (edgeSegments pq tq edge) j * Ideal.ofBits .f32 0x3F000000#32 = _
  rw [segmentMean_eq, segmentMean_eq, nodeSegments_total px tx node hn, edgeSegments_total pq tq edge he, Ideal.ofBits_one_f32,
    half_eq, mul_one, mul_assoc, ← EReal.coe_mul]
  unfold meanLoss
  norm_num

end Cert.ReferenceIdeal.Loss

end
-- ==== Proof.Math.Equation.lean ====
/- The equation: for segment numbers in range, both programs' results are the same word. -/
module

public import proofs.«01_k».proof.Proof.Ideal.Launch
public import proofs.«01_k».proof.Proof.Ideal.Total
public import proofs.«01_k».proof.Proof.Reference.Total
public import Idealize.ShloMosaic.Lib.Claim

@[expose] public section

set_option maxRecDepth 16384

noncomputable section

namespace Cert.Totals

open Idealize.ShloMosaic Idealize.ShloMosaic.TcCoe Idealize.ShloMosaic.Tactic

section Kernel

open Cert.KernelIdeal Cert.KernelIdeal.Gen

variable (m : (ℓ : Loc nD τ sig) → Buf (Elt Ideal) ℓ)

/-- The kernel's node operands are the arguments transposed, its edge operands the arguments reshaped: its value, in
    the arguments' own totals. -/
theorem kernel_value (c : Dev nD) : (Loss.lossAt (F := Ideal) m c : EReal) = meanLoss
      (squares (s := S100000x3) (m ((c.tc : Thread nD τ).loc main_arg0)) (m ((c.tc : Thread nD τ).loc main_arg2)))
      (squares (s := S6400000) (m ((c.tc : Thread nD τ).loc main_arg1)) (m ((c.tc : Thread nD τ).loc main_arg3))) := by
  unfold Loss.lossAt
  entry_read
  rw [Loss.loss_total]
  exact congrArg₂ meanLoss (Loss.squares_transpose _ _ _) (squares_shapeCast _ _ _)

end Kernel

end Cert.Totals

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Ideal.Result
public import proofs.«01_k».proof.Proof.Same.Frame
public import proofs.«01_k».proof.Proof.Reference.Range
public import proofs.«01_k».proof.Proof.Math.Equation
public import Idealize.ShloMosaic.Adequacy
public import Idealize.ShloMosaic.Init

@[expose] public section

noncomputable section

namespace Cert.Proof

open Idealize.ShloMosaic Idealize.SL.Sem

/-- The idealized kernel leaves its arguments unchanged and every semaphore at zero. -/
theorem kernelIdeal_frame : quiescent_KernelIdeal (hKernelIdeal := Cert.KernelIdeal.Gen.facts) := fun m ρ _ =>
  (θ_run Cert.KernelIdeal.defs _ _).mono (fun _ h => ⟨fun c => (h.1 c).2, h.2⟩) (Cert.KernelIdeal.Loss.run_result m ρ)

/-- The reference leaves its arguments unchanged and every semaphore at zero. -/
theorem reference_frame : quiescent_ReferenceIdeal (hReferenceIdeal := Cert.ReferenceIdeal.Gen.facts) := fun m ρ _ =>
  Cert.ReferenceIdeal.Loss.frame m ρ

/-- From equal arguments whose segment numbers are in range, the kernel and the reference end with the same result. -/
theorem equal_results : algebraic_KernelIdeal_ReferenceIdeal_pre_merge_in_range (hKernelIdeal := Cert.KernelIdeal.Gen.facts)
    (hReferenceIdeal := Cert.ReferenceIdeal.Gen.facts) (hPre_merge_in_range := Cert.Pre_merge_in_range.facts) := by
  intro m g m' g' hpre hagree
  refine ⟨fun c _ => Cert.KernelIdeal.Loss.lossAt (F := Ideal) m c,
    (θ_run Cert.KernelIdeal.defs _ _).mono (fun _ h => h.1) (Cert.KernelIdeal.Loss.run_result m g),
    (θ_run Cert.ReferenceIdeal.defs _ _).mono (fun _ h c => ⟨(h c).1.trans ?_, (h c).2⟩) (Cert.ReferenceIdeal.Loss.run_result m' g')⟩
  obtain ⟨a0, a1, a2, a3, a4, a5⟩ := hagree c
  obtain ⟨he, hn⟩ := Cert.Pre_merge_in_range.in_range _ _ _ _ _ _ (hpre c)
  unfold Cert.ReferenceIdeal.Loss.lossAt
  rw [a0, a1, a2, a3, a4, a5]
  refine (Cert.ReferenceIdeal.Loss.loss_total _ _ _ _ _ _ he hn).trans (funext fun _ => ?_)
  exact (Cert.Totals.kernel_value m c).symm

/-- All the claims together. -/
theorem claim : Cert.Claim :=
  ⟨Cert.Kernel.Gen.facts, Cert.KernelIdeal.Gen.facts, Cert.ReferenceIdeal.Gen.facts, Cert.Pre_merge_in_range.facts,
    fun m ρ _ => Cert.Kernel.Loss.frame m ρ, kernelIdeal_frame, fun m ρ _ => kernelIdeal_frame m ρ trivial,
    reference_frame, fun m ρ _ => reference_frame m ρ trivial, trivial, equal_results⟩

end Cert.Proof

end
